-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_core_finite [hPre_core_finite : Cert.Pre_core_finite.Facts] (m : (ℓ : Loc Cert.KernelIdeal.nD Cert.KernelIdeal.τ Cert.KernelIdeal.sig) → Buf (Elt Ideal) ℓ) : Prop :=
  ∀ c : Dev Cert.KernelIdeal.nD,
    (Cert.Pre_core_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_core_finite [hPre_core_finite : Cert.Pre_core_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_core_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_core_finite [hKernelIdeal : Cert.KernelIdeal.Facts] [hPre_core_finite : Cert.Pre_core_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_core_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_core_finite [hReferenceIdeal : Cert.ReferenceIdeal.Facts] [hPre_core_finite : Cert.Pre_core_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_core_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_core_finite [hKernelIdeal : Cert.KernelIdeal.Facts] [hReferenceIdeal : Cert.ReferenceIdeal.Facts] [hPre_core_finite : Cert.Pre_core_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_core_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_core_finite : Cert.Pre_core_finite.Facts),
    quiescent_Kernel (hKernel := hKernel)
    ∧ quiescent_KernelIdeal (hKernelIdeal := hKernelIdeal)
    ∧ quiescent_KernelIdeal_pre_core_finite (hKernelIdeal := hKernelIdeal) (hPre_core_finite := hPre_core_finite)
    ∧ quiescent_ReferenceIdeal (hReferenceIdeal := hReferenceIdeal)
    ∧ quiescent_ReferenceIdeal_pre_core_finite (hReferenceIdeal := hReferenceIdeal) (hPre_core_finite := hPre_core_finite)
    ∧ preserves_Kernel_KernelIdeal
    ∧ algebraic_KernelIdeal_ReferenceIdeal_pre_core_finite (hKernelIdeal := hKernelIdeal) (hReferenceIdeal := hReferenceIdeal) (hPre_core_finite := hPre_core_finite)
-- ==== Pre_core_finite.lean ====
abbrev S1x2048x1024 : Shape := ⟨3, ![1, 2048, 1024]⟩
abbrev S1024 : Shape := ⟨1, ![1024]⟩
abbrev S1024x1x3 : Shape := ⟨3, ![1024, 1, 3]⟩
abbrev S128x1024 : Shape := ⟨2, ![128, 1024]⟩
abbrev S128 : Shape := ⟨1, ![128]⟩
abbrev S2x2x256x128 : Shape := ⟨4, ![2, 2, 256, 128]⟩
abbrev S2x2x2 : Shape := ⟨3, ![2, 2, 2]⟩
abbrev S65536x256 : Shape := ⟨2, ![65536, 256]⟩
abbrev S_ : Shape := ⟨0, ![]⟩

class Facts : Prop where
  bcast_S_S2x2x2 : S_.BroadcastsInDim S2x2x2 (![] : Fin 0 → Fin S2x2x2.rank)

variable [Facts]

def fn {F : FTy → Type} [FloatOps F] (main_arg0 : FVec F S1x2048x1024 .f32) (main_arg1 : FVec F S1024 .f32) (main_arg2 : FVec F S1024x1x3 .f32) (main_arg3 : FVec F S1024 .f32) (main_arg4 : FVec F S128x1024 .f32) (main_arg5 : FVec F S128 .f32) (main_arg6 : FVec F S128 .f32) (main_arg7 : FVec F S2x2x256x128 .f32) (main_arg8 : FVec F S2x2x2 .f32) (main_arg9 : FVec F S65536x256 .f32) : IVec S2x2x2 1 :=
  let main_v0 : FVec F S2x2x2 .f32 := Host.absf main_arg8
  let main_cst : FVec F S_ .f32 := constant S_ .f32 0x7F800000#32
  let main_v1 : FVec F S2x2x2 .f32 := broadcastInDim S2x2x2 ![] bcast_S_S2x2x2 main_cst
  let main_v2 : IVec S2x2x2 1 := cmpf .olt main_v0 main_v1
  main_v2
-- ==== Kernel.lean ====
abbrev S1x2048x1024 : Shape := ⟨3, ![1, 2048, 1024]⟩
abbrev S1024 : Shape := ⟨1, ![1024]⟩
abbrev S1024x1x3 : Shape := ⟨3, ![1024, 1, 3]⟩
abbrev S128x1024 : Shape := ⟨2, ![128, 1024]⟩
abbrev S128 : Shape := ⟨1, ![128]⟩
abbrev S2x2x256x128 : Shape := ⟨4, ![2, 2, 256, 128]⟩
abbrev S2x2x2 : Shape := ⟨3, ![2, 2, 2]⟩
abbrev S65536x256 : Shape := ⟨2, ![65536, 256]⟩
abbrev S2048x1024 : Shape := ⟨2, ![2048, 1024]⟩
abbrev S1x1024 : Shape := ⟨2, ![1, 1024]⟩
abbrev S1024x3 : Shape := ⟨2, ![1024, 3]⟩
abbrev S3x1024 : Shape := ⟨2, ![3, 1024]⟩
abbrev S2x4 : Shape := ⟨2, ![2, 4]⟩
abbrev S1x1 : Shape := ⟨2, ![1, 1]⟩
abbrev S8x1024 : Shape := ⟨2, ![8, 1024]⟩
abbrev S128x1 : Shape := ⟨2, ![128, 1]⟩
abbrev S127x1024 : Shape := ⟨2, ![127, 1024]⟩
abbrev S2x1024 : Shape := ⟨2, ![2, 1024]⟩
abbrev S126x1024 : Shape := ⟨2, ![126, 1024]⟩
abbrev S2 : Shape := ⟨1, ![2]⟩
abbrev S2x1 : Shape := ⟨2, ![2, 1]⟩
abbrev S1x2x1 : Shape := ⟨3, ![1, 2, 1]⟩
abbrev S1 : Shape := ⟨1, ![1]⟩
abbrev S1x1x1 : Shape := ⟨3, ![1, 1, 1]⟩
abbrev S_ : Shape := ⟨0, ![]⟩

abbrev nBuf : Space → Nat
  | .hbm => 22
  | .vmem => 10
  | .smem => 0
  | _ => 0

abbrev bufTy : (tb : Table) → Fin (tcTables nBuf tb) → BufTy
  | .hbm, ⟨0, _⟩ => ⟨S1x2048x1024, .f32⟩
  | .hbm, ⟨1, _⟩ => ⟨S1024, .f32⟩
  | .hbm, ⟨2, _⟩ => ⟨S1024x1x3, .f32⟩
  | .hbm, ⟨3, _⟩ => ⟨S1024, .f32⟩
  | .hbm, ⟨4, _⟩ => ⟨S128x1024, .f32⟩
  | .hbm, ⟨5, _⟩ => ⟨S128, .f32⟩
  | .hbm, ⟨6, _⟩ => ⟨S128, .f32⟩
  | .hbm, ⟨7, _⟩ => ⟨S2x2x256x128, .f32⟩
  | .hbm, ⟨8, _⟩ => ⟨S2x2x2, .f32⟩
  | .hbm, ⟨9, _⟩ => ⟨S65536x256, .f32⟩
  | .hbm, ⟨10, _⟩ => ⟨S2048x1024, .f32⟩
  | .hbm, ⟨11, _⟩ => ⟨S1x1024, .f32⟩
  | .hbm, ⟨12, _⟩ => ⟨S1024x3, .f32⟩
  | .hbm, ⟨13, _⟩ => ⟨S3x1024, .f32⟩
  | .hbm, ⟨14, _⟩ => ⟨S3x1024, .f32⟩
  | .hbm, ⟨15, _⟩ => ⟨S3x1024, .f32⟩
  | .hbm, ⟨16, _⟩ => ⟨S1x1024, .f32⟩
  | .hbm, ⟨17, _⟩ => ⟨S2x4, .f32⟩
  | .hbm, ⟨18, _⟩ => ⟨S2048x1024, .f32⟩
  | .hbm, ⟨19, _⟩ => ⟨S1x1, .f32⟩
  | .hbm, ⟨20, _⟩ => ⟨S1x2048x1024, .f32⟩
  | .hbm, ⟨21, _⟩ => ⟨S_, .f32⟩
  | .local _ .vmem, ⟨0, _⟩ => ⟨S8x1024, .f32⟩
  | .local _ .vmem, ⟨1, _⟩ => ⟨S8x1024, .f32⟩
  | .local _ .vmem, ⟨2, _⟩ => ⟨S128x1024, .f32⟩
  | .local _ .vmem, ⟨3, _⟩ => ⟨S128x1024, .f32⟩
  | .local _ .vmem, ⟨4, _⟩ => ⟨S3x1024, .f32⟩
  | .local _ .vmem, ⟨5, _⟩ => ⟨S1x1024, .f32⟩
  | .local _ .vmem, ⟨6, _⟩ => ⟨S2x4, .f32⟩
  | .local _ .vmem, ⟨7, _⟩ => ⟨S128x1024, .f32⟩
  | .local _ .vmem, ⟨8, _⟩ => ⟨S128x1024, .f32⟩
  | .local _ .vmem, ⟨9, _⟩ => ⟨S1x1, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32_24 : BitVec 32 := 0#32
  let v76 : BitVec 1 := Scalar.cmpi .eq arg0 c0_i32_24
  let v77 : BitVec 32 := Scalar.extui v76
  let c0_i32_25 : BitVec 32 := 0#32
  let v78 : BitVec 1 := Scalar.cmpi .ne v77 c0_i32_25
  v78

def cc0_transform_0 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S1x2048x1024 : Shape := ⟨3, ![1, 2048, 1024]⟩
abbrev S1024 : Shape := ⟨1, ![1024]⟩
abbrev S1024x1x3 : Shape := ⟨3, ![1024, 1, 3]⟩
abbrev S128x1024 : Shape := ⟨2, ![128, 1024]⟩
abbrev S128 : Shape := ⟨1, ![128]⟩
abbrev S2x2x256x128 : Shape := ⟨4, ![2, 2, 256, 128]⟩
abbrev S2x2x2 : Shape := ⟨3, ![2, 2, 2]⟩
abbrev S65536x256 : Shape := ⟨2, ![65536, 256]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S2x2x1 : Shape := ⟨3, ![2, 2, 1]⟩
abbrev S2x2 : Shape := ⟨2, ![2, 2]⟩
abbrev S2 : Shape := ⟨1, ![2]⟩
abbrev S2x1 : Shape := ⟨2, ![2, 1]⟩
abbrev S1x2050x1024 : Shape := ⟨3, ![1, 2050, 1024]⟩
abbrev S1024x1x1 : Shape := ⟨3, ![1024, 1, 1]⟩

abbrev nBuf : Space → Nat
  | .hbm => 107
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1024, .f32⟩
  | .hbm, ⟨2, _⟩ => ⟨S1024x1x3, .f32⟩
  | .hbm, ⟨3, _⟩ => ⟨S1024, .f32⟩
  | .hbm, ⟨4, _⟩ => ⟨S128x1024, .f32⟩
  | .hbm, ⟨5, _⟩ => ⟨S128, .f32⟩
  | .hbm, ⟨6, _⟩ => ⟨S128, .f32⟩
  | .hbm, ⟨7, _⟩ => ⟨S2x2x256x128, .f32⟩
  | .hbm, ⟨8, _⟩ => ⟨S2x2x2, .f32⟩
  | .hbm, ⟨9, _⟩ => ⟨S65536x256, .f32⟩
  | .hbm, ⟨10, _⟩ => ⟨S1x2048x1024, .f32⟩
  | .hbm, ⟨11, _⟩ => ⟨S_, .f32⟩
  | .hbm, ⟨12, _⟩ => ⟨S1x2048, .f32⟩
  | .hbm, ⟨13, _⟩ => ⟨S1x2048x1, .f32⟩
  | .hbm, ⟨14, _⟩ => ⟨S_, .f32⟩
  | .hbm, ⟨15, _⟩ => ⟨S1x2048x1, .f32⟩
  | .hbm, ⟨16, _⟩ => ⟨S1x2048x1, .f32⟩
  | .hbm, ⟨17, _⟩ => ⟨S_, .f32⟩
  | .hbm, ⟨18, _⟩ => ⟨S1x2048x1, .f32⟩
  | .hbm, ⟨19, _⟩ => ⟨S1x2048x1, .f32⟩
  | .hbm, ⟨20, _⟩ => ⟨S1x2048x1, .f32⟩
  | .hbm, ⟨21, _⟩ => ⟨S1x2048x1024, .f32⟩
  | .hbm, ⟨22, _⟩ => ⟨S1x2048x1024, .f32⟩
  | .hbm, ⟨23, _⟩ => ⟨S1x1x1024, .f32⟩
  | .hbm, ⟨24, _⟩ => ⟨S1x2048x1024, .f32⟩
  | .hbm, ⟨25, _⟩ => ⟨S1x2048x1024, .f32⟩
  | .hbm, ⟨26, _⟩ => ⟨S2x2x1, .f32⟩
  | .hbm, ⟨27, _⟩ => ⟨S2x2, .f32⟩
  | .hbm, ⟨28, _⟩ => ⟨S2x2x1, .f32⟩
  | .hbm, ⟨29, _⟩ => ⟨S2x2, .f32⟩
  | .hbm, ⟨30, _⟩ => ⟨S2x2, .f32⟩
  | .hbm, ⟨31, _⟩ => ⟨S_, .f32⟩
  | .hbm, ⟨32, _⟩ => ⟨S2, .f32⟩
  | .hbm, ⟨33, _⟩ => ⟨S2x2x1, .f32⟩
  | .hbm, ⟨34, _⟩ => ⟨S2x2, .f32⟩
  | .hbm, ⟨35, _⟩ => ⟨S2x2x1, .f32⟩
  | .hbm, ⟨36, _⟩ => ⟨S2x2, .f32⟩
  | .hbm, ⟨37, _⟩ => ⟨S2x2, .f32⟩
  | .hbm, ⟨38, _⟩ => ⟨S_, .f32⟩
  | .hbm, ⟨39, _⟩ => ⟨S2, .f32⟩
  | .hbm, ⟨40, _⟩ => ⟨S2x2x1, .f32⟩
  | .hbm, ⟨41, _⟩ => ⟨S2x2, .f32⟩
  | .hbm, ⟨42, _⟩ => ⟨S2x2x1, .f32⟩
  | .hbm, ⟨43, _⟩ => ⟨S2x2, .f32⟩
  | .hbm, ⟨44, _⟩ => ⟨S2x2, .f32⟩
  | .hbm, ⟨45, _⟩ => ⟨S_, .f32⟩
  | .hbm, ⟨46, _⟩ => ⟨S2, .f32⟩
  | .hbm, ⟨47, _⟩ => ⟨S2, .f32⟩
  | .hbm, ⟨48, _⟩ => ⟨S_, .f32⟩
  | .hbm, ⟨49, _⟩ => ⟨S2, .f32⟩
  | .hbm, ⟨50, _⟩ => ⟨S2, .f32⟩
  | .hbm, ⟨51, _⟩ => ⟨S2, .f32⟩
  | .hbm, ⟨52, _⟩ => ⟨S2, .f32⟩
  | .hbm, ⟨53, _⟩ => ⟨S2, .f32⟩
  | .hbm, ⟨54, _⟩ => ⟨S2, .f32⟩
  | .hbm, ⟨55, _⟩ => ⟨S2, .f32⟩
  | .hbm, ⟨56, _⟩ => ⟨S_, .f32⟩
  | .hbm, ⟨57, _⟩ => ⟨S2, .f32⟩
  | .hbm, ⟨58, _⟩ => ⟨S2, .f32⟩
  | .hbm, ⟨59, _⟩ => ⟨S2, .f32⟩
  | .hbm, ⟨60, _⟩ => ⟨S_, .f32⟩
  | .hbm, ⟨61, _⟩ => ⟨S2, .f32⟩
  | .hbm, ⟨62, _⟩ => ⟨S2, .f32⟩
  | .hbm, ⟨63, _⟩ => ⟨S2, .f32⟩
  | .hbm, ⟨64, _⟩ => ⟨S2x1, .f32⟩
  | .hbm, ⟨65, _⟩ => ⟨S_, .f32⟩
  | .hbm, ⟨66, _⟩ => ⟨S2x1, .f32⟩
  | .hbm, ⟨67, _⟩ => ⟨S2x1, .f32⟩
  | .hbm, ⟨68, _⟩ => ⟨S_, .f32⟩
  | .hbm, ⟨69, _⟩ => ⟨S2x1, .f32⟩
  | .hbm, ⟨70, _⟩ => ⟨S2x1, .f32⟩
  | .hbm, ⟨71, _⟩ => ⟨S2x1, .f32⟩
  | .hbm, ⟨72, _⟩ => ⟨S_, .f32⟩
  | .hbm, ⟨73, _⟩ => ⟨S2, .f32⟩
  | .hbm, ⟨74, _⟩ => ⟨S_, .f32⟩
  | .hbm, ⟨75, _⟩ => ⟨S2, .f32⟩
  | .hbm, ⟨76, _⟩ => ⟨S2, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .i32⟩
  | .hbm, ⟨82, _⟩ => ⟨S_, .f32⟩
  | .hbm, ⟨83, _⟩ => ⟨S1x2050x1024, .f32⟩
  | .hbm, ⟨84, _⟩ => ⟨S1x2048x1024, .f32⟩
  | .hbm, ⟨85, _⟩ => ⟨S1024x1x1, .f32⟩
  | .hbm, ⟨86, _⟩ => ⟨S1024, .f32⟩
  | .hbm, ⟨87, _⟩ => ⟨S1x1x1024, .f32⟩
  | .hbm, ⟨88, _⟩ => ⟨S1x2048x1024, .f32⟩
  | .hbm, ⟨89, _⟩ => ⟨S1x2048x1024, .f32⟩
  | .hbm, ⟨90, _⟩ => ⟨S1x2048x1024, .f32⟩
  | .hbm, ⟨91, _⟩ => ⟨S1024x1x1, .f32⟩
  | .hbm, ⟨92, _⟩ => ⟨S1024, .f32⟩
  | .hbm, ⟨93, _⟩ => ⟨S1x1x1024, .f32⟩
  | .hbm, ⟨94, _⟩ => ⟨S1x2048x1024, .f32⟩
  | .hbm, ⟨95, _⟩ => ⟨S1x2048x1024, .f32⟩
  | .hbm, ⟨96, _⟩ => ⟨S1x2048x1024, .f32⟩
  | .hbm, ⟨97, _⟩ => ⟨S1x2048x1024, .f32⟩
  | .hbm, ⟨98, _⟩ => ⟨S1024x1x1, .f32⟩
  | .hbm, ⟨99, _⟩ => ⟨S1024, .f32⟩
  | .hbm, ⟨100, _⟩ => ⟨S1x1x1024, .f32⟩
  | .hbm, ⟨101, _⟩ => ⟨S1x2048x1024, .f32⟩
  | .hbm, ⟨102, _⟩ => ⟨S1x2048x1024, .f32⟩
  | .hbm, ⟨103, _⟩ => ⟨S1x2048x1024, .f32⟩
  | .hbm, ⟨104, _⟩ => ⟨S1x1x1024, .f32⟩
  | .hbm, ⟨105, _⟩ => ⟨S1x2048x1024, .f32⟩
  | .hbm, ⟨106, _⟩ => ⟨S1x2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_8 : Ref sig .tc := ⟨.hbm, 65, rfl⟩
abbrev main_v46 : Ref sig .tc := ⟨.hbm, 66, rfl⟩
abbrev main_v47 : Ref sig .tc := ⟨.hbm, 67, rfl⟩
abbrev main_call0_cst : Ref sig .tc := ⟨.hbm, 68, rfl⟩
abbrev main_call0_v0 : Ref sig .tc := ⟨.hbm, 69, rfl⟩
abbrev main_v48 : Ref sig .tc := ⟨.hbm, 70, rfl⟩
abbrev main_v49 : Ref sig .tc := ⟨.hbm, 71, rfl⟩
abbrev main_cst_9 : Ref sig .tc := ⟨.hbm, 72, rfl⟩
abbrev main_v50 : Ref sig .tc := ⟨.hbm, 73, rfl⟩
abbrev main_cst_10 : Ref sig .tc := ⟨.hbm, 74, rfl⟩
abbrev main_v51 : Ref sig .tc := ⟨.hbm, 75, rfl⟩
abbrev main_v52 : Ref sig .tc := ⟨.hbm, 76, rfl⟩
abbrev main_cst_11 : Ref sig .tc := ⟨.hbm, 77, rfl⟩
abbrev main_v53 : Ref sig .tc := ⟨.hbm, 78, rfl⟩
abbrev main_cst_12 : Ref sig .tc := ⟨.hbm, 79, rfl⟩
abbrev main_v54 : Ref sig .tc := ⟨.hbm, 80, rfl⟩
abbrev main_c : Ref sig .tc := ⟨.hbm, 81, rfl⟩
abbrev main_call1_v0 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩

abbrev nD : Nat := 1
abbrev τ : Topo := Topo.v7x

variable {F : FTy → Type} [FloatOps F]
-- ==== Proof.Body.lean ====
/- The kernel body's triple and the pipeline's run of `KernelIdeal`, with the contents of both outputs named.

   Window 5 (the output rows) is stored whole at every point and its first two rows are then stored again; window 6
   (the auxiliary loss) is stored at the first point only, is idle at every other point, and is written back after the
   last one. So window 6's staging buffer holds the first point's value throughout. -/
module

public import proofs.«01_k».proof.Proof.Gen.KernelIdeal.Frame
public import proofs.«01_k».proof.Proof.Gen.KernelIdeal.Skeleton
public import Idealize.ShloMosaic.Lib.Claim
public import Idealize.ShloMosaic.Lib.Pipeline.TableIdle
public import Idealize.ShloMosaic.Lib.Pipeline.Value

@[expose] public section

set_option maxRecDepth 16384

noncomputable section

namespace Cert.KernelIdeal.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## What the body computes -/

/-- The body's condition on the grid coordinates: whether it stores the auxiliary loss. -/
abbrev first (i : grid0.Coords) : Prop := k0_cond1 i = 1#1

/-- It holds at point 0 only. -/
theorem first_iff (t : Fin cfg0.N) : first (grid0.coords t) ↔ t.val = 0 := by
  have ht : t.val < 16 := Nat.lt_of_lt_of_eq t.isLt N_0
  have e0 : (grid0.coords t 0).val = t.val / 1 % 16 := Pipeline.Grid.coords_val t 0 (by decide) rfl
  have h : first (grid0.coords t) ↔ t.val % 16 = 0 := by
    simp only [first, k0_cond1, e0]
    word_cmp
  rw [h]; omega

/-! The body's loads: the whole block of tokens, the rows of the combined weights, the bias, and the two last rows of
    the halo block. -/

abbrev tok (x1 : Vec F S128x1024 .f32) : Vec F S128x1024 .f32 := View.ld x1 (Rect.unit (s := S128x1024) ![0, 0] S128x1024.size inb_S128x1024_S128x1024_0_0)
abbrev bias (x3 : Vec F S1x1024 .f32) : Vec F S1x1024 .f32 := View.ld x3 (Rect.unit (s := S1x1024) ![0, 0] S1x1024.size inb_S1x1024_S1x1024_0_0)
abbrev w0 (x2 : Vec F S3x1024 .f32) : Vec F S1x1024 .f32 := View.ld x2 (Rect.unit (s := S3x1024) ![0, 0] S1x1024.size inb_S3x1024_S1x1024_0_0)
abbrev w1 (x2 : Vec F S3x1024 .f32) : Vec F S1x1024 .f32 := View.ld x2 (Rect.unit (s := S3x1024) ![1, 0] S1x1024.size inb_S3x1024_S1x1024_1_0)
abbrev w2 (x2 : Vec F S3x1024 .f32) : Vec F S1x1024 .f32 := View.ld x2 (Rect.unit (s := S3x1024) ![2, 0] S1x1024.size inb_S3x1024_S1x1024_2_0)
abbrev halo (x0 : Vec F S8x1024 .f32) : Vec F S2x1024 .f32 := View.ld x0 (Rect.unit (s := S8x1024) ![6, 0] S2x1024.size inb_S8x1024_S2x1024_6_0)

/-- The first row of the output block, -/
def row0 (i : grid0.Coords) (x0 : Vec F S8x1024 .f32) (x1 : Vec F S128x1024 .f32) (x2 : Vec F S3x1024 .f32) (x3 : Vec F S1x1024 .f32) : Vec F S1x1024 .f32 :=
  k0_pay2 (BitVec.ofNat 32 (i 0).val) (k0_pay5 (tok x1)) (k0_pay6 (w0 x2)) (k0_pay7 (w1 x2)) (k0_pay8 (w2 x2)) (k0_pay10 (halo x0)) (k0_pay11 (halo x0)) (bias x3)

/-- its second row, -/
def row1 (i : grid0.Coords) (x0 : Vec F S8x1024 .f32) (x1 : Vec F S128x1024 .f32) (x2 : Vec F S3x1024 .f32) (x3 : Vec F S1x1024 .f32) : Vec F S1x1024 .f32 :=
  k0_pay3 (BitVec.ofNat 32 (i 0).val) (k0_pay5 (tok x1)) (k0_pay6 (w0 x2)) (k0_pay7 (w1 x2)) (k0_pay8 (w2 x2)) (k0_pay10 (halo x0)) (k0_pay11 (halo x0)) (bias x3)

/-- and the whole block as it is stored first. -/
def rows (x1 : Vec F S128x1024 .f32) (x2 : Vec F S3x1024 .f32) (x3 : Vec F S1x1024 .f32) : Vec F S128x1024 .f32 :=
  k0_pay9 (tok x1) (w0 x2) (w1 x2) (w2 x2) (bias x3)

/-- The three stores into the output block, last first: its second row, its first row, the whole block. -/
abbrev pieces (p1 p0 : Vec F S1x1024 .f32) (p : Vec F S128x1024 .f32) : List (View.Piece (Elt F) S128x1024 .f32) :=
  [⟨Rect.unit (s := S128x1024) ![1, 0] S1x1024.size inb_S128x1024_S1x1024_1_0, p1⟩,
   ⟨Rect.unit (s := S128x1024) ![0, 0] S1x1024.size inb_S128x1024_S1x1024_0_0, p0⟩,
   ⟨Rect.unit (s := S128x1024) ![0, 0] S128x1024.size inb_S128x1024_S128x1024_0_0, p⟩]

/-- The output block the body leaves. -/
def outBlk (i : grid0.Coords) (x0 : Vec F S8x1024 .f32) (x1 : Vec F S128x1024 .f32) (x2 : Vec F S3x1024 .f32) (x3 : Vec F S1x1024 .f32) : Vec F S128x1024 .f32 :=
  View.canon (pieces (row1 i x0 x1 x2 x3) (row0 i x0 x1 x2 x3) (rows x1 x2 x3))

/-- The auxiliary loss the body stores. -/
def auxBlk (x4 : Vec F S2x4 .f32) : Vec F S1x1 .f32 :=
  k0_pay4 (View.ld x4 (Rect.unit (s := S2x4) ![0, 0] S2x1.size inb_S2x4_S2x1_0_0))
    (View.ld x4 (Rect.unit (s := S2x4) ![0, 1] S2x1.size inb_S2x4_S2x1_0_1))
    (View.ld x4 (Rect.unit (s := S2x4) ![0, 2] S2x1.size inb_S2x4_S2x1_0_2))
    (View.ld x4 (Rect.unit (s := S2x4) ![0, 3] S2x1.size inb_S2x4_S2x1_0_3))

/-- The literal zero offsets are the zero offsets. -/
theorem hz : (![0, 0] : Fin 2 → Nat) = fun _ => 0 := funext fun a => by fin_cases a <;> rfl

/-- The three stores cover the output block, so what they leave depends on nothing that was there. -/
theorem read_pieces (v : View sig .tc .vmem S128x1024 .f32) (f : v.ty.Contents (Elt F)) (p1 p0 : Vec F S1x1024 .f32) (p : Vec F S128x1024 .f32) :
    v.read (Elt F) (v.writes (Elt F) f (pieces p1 p0 p)) = View.canon (pieces p1 p0 p) :=
  View.read_writes_eq_canon v f (pieces p1 p0 p) fun y =>
    ⟨_, List.mem_cons_of_mem _ (List.mem_cons_of_mem _ List.mem_cons_self),
      View.mem_set_unit_zero hz inb_S128x1024_S128x1024_0_0 y⟩

/-- The one store of the auxiliary loss, -/
abbrev piece (p : Vec F S1x1 .f32) : List (View.Piece (Elt F) S1x1 .f32) :=
  [⟨Rect.unit (s := S1x1) ![0, 0] S1x1.size inb_S1x1_S1x1_0_0, p⟩]

/-- leaves it. -/
theorem read_aux (v : View sig .tc .vmem S1x1 .f32) (f : v.ty.Contents (Elt F)) (p : Vec F S1x1 .f32) :
    v.read (Elt F) (v.writes (Elt F) f (piece p)) = p :=
  (View.read_writes_eq_canon v f (piece p) fun y => ⟨_, List.mem_cons_self, View.mem_set_unit_zero hz inb_S1x1_S1x1_0_0 y⟩).trans
    (View.canon_unit_zero hz inb_S1x1_S1x1_0_0 p)

-- (the run's proof term is large: checking it walks past the default budget)
set_option maxHeartbeats 2000000 in
/-- The body's triple: on whole staging memrefs, the inputs' at their contents and the outputs' at anything, the body
    leaves the output rows at `outBlk` and the auxiliary loss at `auxBlk` at the first point and as it was elsewhere. -/
theorem body_run (c : Dev nD) (i : grid0.Coords) (arg1 : Memref sig .tc .vmem S8x1024 .f32) (harg1 : arg1.IsWhole) (arg2 : Memref sig .tc .vmem S128x1024 .f32) (harg2 : arg2.IsWhole) (arg3 : Memref sig .tc .vmem S3x1024 .f32) (harg3 : arg3.IsWhole) (arg4 : Memref sig .tc .vmem S1x1024 .f32) (harg4 : arg4.IsWhole) (arg5 : Memref sig .tc .vmem S2x4 .f32) (harg5 : arg5.IsWhole) (arg6 : Memref sig .tc .vmem S128x1024 .f32) (harg6 : arg6.IsWhole) (arg7 : Memref sig .tc .vmem S1x1 .f32) (harg7 : arg7.IsWhole)
    (x0 : Vec F S8x1024 .f32) (x1 : Vec F S128x1024 .f32) (x2 : Vec F S3x1024 .f32) (x3 : Vec F S1x1024 .f32) (x4 : Vec F S2x4 .f32) (x6 y6 : Vec F S1x1 .f32)
    (hy : first i → y6 = auxBlk x4) (hn : ¬first i → y6 = x6) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare x6
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (outBlk i x0 x1 x2 x3) ∗ owns (c : Thread nD τ) arg7 fullShare y6) -∗ K ⟨⟩))
          ⊢ wp frame (wpE (defs₀ (F := F)) Variants.none c none) E (cc0__fused_body i arg1 harg1 arg2 harg2 arg3 harg3 arg4 harg4 arg5 harg5 arg6 harg6 arg7 harg7) K := by
  intro E K
  simp only [cc0__fused_body_eq_skeleton]; unfold cc0__fused_body_skel
  simp only [k0_part2_eq_skeleton, k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  obtain rfl := harg1.eq_unread hf0; obtain rfl := harg2.eq_unread hf1; obtain rfl := harg3.eq_unread hf2; obtain rfl := harg4.eq_unread hf3; obtain rfl := harg5.eq_unread hf4
  by_cases hc0 : first i
  on_goal 1 => obtain rfl := hy hc0
  on_goal 2 => obtain rfl := hn hc0
  all_goals
    sl_exec (disch := first | sl_exact hc0)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; swap; · iexact H5
      ipureintro
      refine (read_pieces _ _ _ _ _).trans ?_
      show outBlk i (arg1.view.read (Elt F) (harg1.unread x0)) (arg2.view.read (Elt F) (harg2.unread x1))
        (arg3.view.read (Elt F) (harg3.unread x2)) (arg4.view.read (Elt F) (harg4.unread x3)) = _
      rw [hf0, hf1, hf2, hf3]
    iexists _; isplitr; swap; · iexact H6
    ipureintro
  · refine (read_aux _ _ _).trans ?_
    show auxBlk (arg5.view.read (Elt F) (harg5.unread x4)) = _
    rw [hf4]
  · exact hf6

end Cert.KernelIdeal.Fused

end
-- ==== Proof.Run.lean ====
/- The pipeline's run of `KernelIdeal`: the proof data naming both outputs, the body obligation at every point, the
   launch and the frame. -/
module

public import proofs.«01_k».proof.Proof.Body

@[expose] public section

set_option maxRecDepth 16384

noncomputable section

namespace Cert.KernelIdeal.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The first grid point. -/
def pt0 : Fin cfg0.N := ⟨0, by rw [show cfg0.N = 16 from N_0]; decide⟩

/-- The output rows' block at point `t`, -/
def outAt (c : Dev nD) (t : Fin cfg0.N) : Vec F S128x1024 .f32 :=
  outBlk (grid0.coords t) (iblk m c 0 t) (iblk m c 1 t) (iblk m c 2 t) (iblk m c 3 t)

/-- and the auxiliary loss, stored at the first point. -/
def auxAt (c : Dev nD) : Vec F S1x1 .f32 := auxBlk (iblk m c 4 pt0)

/-- The proof data of the one pipeline on core `c`: the arrays as the region finds them; after the body each input's
    buffer at its block, the output rows' at `outAt`, and the auxiliary loss's at `auxAt` at EVERY point (the buffer is
    stored at the first and carried through the others). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
    | ⟨6, _⟩ => auxAt m c
  Φ _ := Pipeline.ΦA spec0 c
  q w := Pipeline.shareOf spec0 w
  owed _ := 0

/-- The proof data's arrays are the region-entry contents. -/
theorem A_eq (c : Dev nD) (w : Fin cfg0.W) : (dats m 0 c).A w = V m c (Pipeline.arrRef spec0 w) := by
  dsimp only [dats]

/-! What the body leaves, window by window. -/

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outAt m c t := by dsimp only [dats]
theorem after6 (c : Dev nD) (t : Fin cfg0.N) : (dats m 0 c).after 6 t = auxAt m c := by dsimp only [dats]

/-! Each input's current staging buffer holds its block at every point. -/

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-! ## The auxiliary loss's window through the points that do not store it -/

/-- Window 6 is idle exactly where the body's condition fails: everywhere but at point 0. -/
theorem idle6 (t : Fin cfg0.N) : cfg0.idle 6 (cfg0.grid.coords t) = decide (t.val ≠ 0) := by
  have e : cfg0.idle 6 (cfg0.grid.coords t) = !(k0_cond1 (grid0.coords t) == 1#1) := rfl
  have h := first_iff t
  rw [e]
  by_cases h0 : t.val = 0
  · have h1 : k0_cond1 (grid0.coords t) = 1#1 := h.mpr h0
    rw [h1]; simp [h0]
  · have h1 : ¬k0_cond1 (grid0.coords t) = 1#1 := fun e => h0 (h.mp e)
    simp [h0, h1]

/-- It is written back after the last point only. -/
theorem flush6 (t : Fin cfg0.N) : (cfg0.win 6).flush t = decide (t.val = 15) := by
  have ht : t.val < 16 := Nat.lt_of_lt_of_eq t.isLt N_0
  have h := flush0_6 t
  by_cases h1 : t.val = 15
  · rw [h.mpr (by omega)]; simp [h1]
  · have h2 : ¬(cfg0.win 6).flush t = true := fun e => by have := h.mp e; omega
    rw [Bool.eq_false_of_not_eq_true h2]; simp [h1]

/-- Its buffer holds a stored value whenever the body runs after the first point. -/
theorem fresh6 (t : Fin cfg0.N) (h0 : t.val ≠ 0) : cfg0.fresh 6 t.val = false := by
  have h := Cfg.fresh_tab cfg0 6 (fun n => decide (n = 0 ∨ 16 ≤ n)) (by simp) (fun t => by
    have ht : t.val < 16 := Nat.lt_of_lt_of_eq t.isLt N_0
    rw [flush6, idle6]
    by_cases h1 : t.val = 15
    · simp [h1]
    · by_cases h2 : t.val = 0
      · simp [h2]
      · have h3 : ¬16 ≤ t.val + 1 := by omega
        have h4 : ¬16 ≤ t.val := by omega
        simp [h1, h2, h3, h4]) t.val (Nat.le_of_lt t.isLt)
  have ht : t.val < 16 := Nat.lt_of_lt_of_eq t.isLt N_0
  rw [h]; simp [h0, ht]

/-- So after the first point the body finds the auxiliary loss there. -/
theorem before6 (c : Dev nD) (t : Fin cfg0.N) (h0 : t.val ≠ 0) (d) : (dats m 0 c).before 6 t d = auxAt m c := by
  rw [(dats m 0 c).before_out_traj 6 rfl (fun _ _ => rfl) (fun t _ _ _ => by rw [after6, after6]) t.val t rfl d,
    fresh6 t h0, if_neg Bool.false_ne_true, after6]

/-! ## The body obligation, at a generic point -/

/-! Each window's current staging memref at point `t`. -/

abbrev ms0 (t : Fin cfg0.N) : Memref sig .tc .vmem S8x1024 .f32 := win0_0.stage (cfg0.slots t 0)
abbrev ms1 (t : Fin cfg0.N) : Memref sig .tc .vmem S128x1024 .f32 := win0_1.stage (cfg0.slots t 1)
abbrev ms2 (t : Fin cfg0.N) : Memref sig .tc .vmem S3x1024 .f32 := win0_2.stage (cfg0.slots t 2)
abbrev ms3 (t : Fin cfg0.N) : Memref sig .tc .vmem S1x1024 .f32 := win0_3.stage (cfg0.slots t 3)
abbrev ms4 (t : Fin cfg0.N) : Memref sig .tc .vmem S2x4 .f32 := win0_4.stage (cfg0.slots t 4)
abbrev ms5 (t : Fin cfg0.N) : Memref sig .tc .vmem S128x1024 .f32 := win0_5.stage (cfg0.slots t 5)
abbrev ms6 (t : Fin cfg0.N) : Memref sig .tc .vmem S1x1 .f32 := win0_6.stage (cfg0.slots t 6)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

/-- Window 6's buffer at the auxiliary loss is what the obligation asks of it at every point: at the first and the last
    the value the proof data names, elsewhere what the body found. -/
theorem leaves6 (c : Dev nD) (t : Fin cfg0.N) :
    owns (c : Thread nD τ) (ms6 t) fullShare (auxAt m c) ⊢ (dats m 0 c).leavesExact 6 t := by
  unfold Dat.leavesExact
  rw [idle6, flush6, after6]
  by_cases h0 : t.val = 0
  · rw [decide_eq_false (not_not.mpr h0)]
  · rw [decide_eq_true h0]
    by_cases h1 : t.val = 15
    · rw [decide_eq_true h1]
    · rw [decide_eq_false h1]
      iintro H
      iexists auxAt m c
      rw [before6 m c t h0]
      iexact H

set_option maxHeartbeats 800000 in
/-- The body at any point: the inputs' memrefs hold their blocks, so the run applies; the invariant passes through
    unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0 t) fullShare ((dats m 0 c).after 0 t) from rfl, after0,
    show (dats m 0 c).leavesExact 1 t = owns (c : Thread nD τ) (ms1 t) fullShare ((dats m 0 c).after 1 t) from rfl, after1,
    show (dats m 0 c).leavesExact 2 t = owns (c : Thread nD τ) (ms2 t) fullShare ((dats m 0 c).after 2 t) from rfl, after2,
    show (dats m 0 c).leavesExact 3 t = owns (c : Thread nD τ) (ms3 t) fullShare ((dats m 0 c).after 3 t) from rfl, after3,
    show (dats m 0 c).leavesExact 4 t = owns (c : Thread nD τ) (ms4 t) fullShare ((dats m 0 c).after 4 t) from rfl, after4,
    show (dats m 0 c).leavesExact 5 t = owns (c : Thread nD τ) (ms5 t) fullShare ((dats m 0 c).after 5 t) from rfl, after5]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_run c (grid0.coords t) _ _ _ _ _ _ _ _ _ _ _ _ _ _ (iblk m c 0 t) (iblk m c 1 t) (iblk m c 2 t) (iblk m c 3 t) (iblk m c 4 t)
    ((dats m 0 c).before 6 t d6) (auxAt m c)
    (fun h => by
      have e : t = pt0 := Fin.ext ((first_iff t).mp h)
      rw [e]; rfl)
    (fun h => (before6 m c t (fun e => h ((first_iff t).mpr e)) d6).symm) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iapply (leaves6 m c t)
  iexact H6

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- the launch theorem's implicit arguments are found by unifying its conclusion with this one, which takes unfolding
-- plain definitions in a metavariable's type
set_option backward.isDefEq.respectTransparency.types false in
set_option maxHeartbeats 800000 in
/-- The launch: every weakly fair execution of @main terminates; every final state has each window's array at what the
    proof data says of it, every other buffer at what the host operations after the region leave there, and every
    semaphore counter at zero. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The same without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame: the argument arrays end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) (run_main m ρ)) ((θ_run defs _ _).mono (fun _ h => h.2) (run_main_quiescent m ρ))

end Cert.KernelIdeal.Fused

end
-- ==== Proof.Frames.lean ====
/- The two frame claims beside the idealized kernel's own (Proof/Run.lean): the kernel's and the reference's. -/
module

public import proofs.«01_k».proof.Defs
public import proofs.«01_k».proof.Proof.Run
public import proofs.«01_k».proof.Proof.Gen.Kernel
public import proofs.«01_k».proof.Proof.Gen.ReferenceIdeal
public import proofs.«01_k».proof.Proof.Gen.ReferenceIdeal.Run
public import Idealize.ShloMosaic.Lib.Quiescent

@[expose] public section

-- two printed bodies compared statement by statement
set_option maxRecDepth 16384
set_option maxHeartbeats 4000000

noncomputable section

namespace Cert.Proof

open Idealize.ShloMosaic Idealize.SL.Sem Idealize.ShloMosaic.TcCoe Idealize.ShloMosaic.StableHlo

attribute [local instance] Cert.Kernel.Gen.facts

/-! ## The kernel

No operation is rewritten by the idealization, so the kernel and its idealization are one program printed twice: their
`main`s and body tables are equal, at any float values. -/

section

variable {F : FTy → Type} [FloatOps F]

/-- The two programs' tables of kernel bodies are equal: their one row is the same body. -/
theorem defs₀_eq : Cert.Kernel.defs₀ (F := F) = Cert.KernelIdeal.defs₀ (F := F) := by
  unfold Cert.Kernel.defs₀ Cert.KernelIdeal.defs₀
  congr 1
  funext b a
  match b, a with
  | 0, (t, s) => rfl

/-- The two programs' body tables are equal. -/
theorem defs_eq : Cert.Kernel.defs (F := F) = Cert.KernelIdeal.defs (F := F) := by
  unfold Cert.Kernel.defs Cert.KernelIdeal.defs
  rw [defs₀_eq]
  rfl

end

set_option backward.isDefEq.respectTransparency false in
set_option backward.isDefEq.respectTransparency.types false in
/-- The kernel's frame: the idealized kernel's is proved at any float values, so also at the kernel's own. -/
theorem kernel_frame : Cert.quiescent_Kernel (hKernel := Cert.Kernel.Gen.facts) := by
  intro m ρ _
  rw [defs_eq]
  exact Cert.KernelIdeal.Fused.frame (F := Bits) m ρ

/-! ## The reference -/

/-- The reference's frame: its run leaves the arguments alone, and it has no semaphore. -/
theorem reference_frame : Cert.quiescent_ReferenceIdeal (hReferenceIdeal := Cert.ReferenceIdeal.Gen.facts) := fun m ρ _ =>
  (θ_run _ _ _).mono (fun r h => ⟨fun c => (h c).2.2, sem_eq_zero_of_no_sems rfl r.2⟩) (Cert.ReferenceIdeal.Value.run m ρ)

end Cert.Proof

end
-- ==== Proof.Rows.lean ====
/- What the kernel stores in its block of the first result, read at an element. -/
module

public import proofs.«01_k».proof.Proof.Body
public import Idealize.ShloMosaic.Lib.Pointwise
public import Idealize.ShloMosaic.Lib.Pipeline.ValueKit

@[expose] public section

set_option maxRecDepth 16384

noncomputable section

namespace Cert.KernelIdeal.Fused

open Idealize.ShloMosaic Idealize.ShloMosaic.TcCoe Idealize.SL.Sem
open Cert.KernelIdeal.Gen

/-- Element `d` of row `y` of `x`, over the root of the mean of the row's squares plus the epsilon. -/
def normed {n : ℕ} (x : FVec Ideal ⟨2, ![n, 1024]⟩ .f32) (y : Fin n) (d : Fin 1024) : EReal :=
  x (ix2 y d) * Ideal.rsqrt (Ideal.div (∑ k : Fin 1024, x (ix2 y k) * x (ix2 y k)) (Ideal.ofBits .f32 0x44800000#32)
    + Ideal.ofBits .f32 0x34000000#32)

/-- The normalised row `k` rows before row `y` of the block `x1`; the rows before the block are the last of `x0`, and at
    point 0 they are zero. -/
def back (i : grid0.Coords) (x0 : FVec Ideal S8x1024 .f32) (x1 : FVec Ideal S128x1024 .f32) (y : Fin 128) (k : Fin 3) (d : Fin 1024) : EReal :=
  if k.val ≤ y.val then normed x1 ⟨y.val - k.val, by omega⟩ d
  else if 0 < (i 0).val then normed x0 ⟨(8 + y.val - k.val) % 8, Nat.mod_lt _ (by decide)⟩ d else 0

/-- The convolution at row `y`: the weights' row 2 goes with the row itself, row 1 with the one before, row 0 with the one before that. -/
def conv (i : grid0.Coords) (x0 : FVec Ideal S8x1024 .f32) (x1 : FVec Ideal S128x1024 .f32) (x2 : FVec Ideal S3x1024 .f32) (x3 : FVec Ideal S1x1024 .f32)
    (y : Fin 128) (d : Fin 1024) : EReal :=
  back i x0 x1 y 0 d * x2 (ix2 2 d) + back i x0 x1 y 1 d * x2 (ix2 1 d) + back i x0 x1 y 2 d * x2 (ix2 0 d) + x3 (ix2 0 d)

/-- The kernel's test for a point other than the first. -/
theorem later_word (i : Fin 16) : Scalar.cmpi CmpIPredicate.sgt (BitVec.ofNat 32 i.val) 0#32 = if 0 < i.val then 1#1 else 0#1 := by
  revert i; decide +kernel

variable (i : grid0.Coords) (x0 : FVec Ideal S8x1024 .f32) (x1 : FVec Ideal S128x1024 .f32) (x2 : FVec Ideal S3x1024 .f32)
  (x3 : FVec Ideal S1x1024 .f32)

/-- No rows before a row is the row itself; -/
theorem back_zero (y : Fin 128) (d : Fin 1024) : back i x0 x1 y 0 d = normed x1 y d := by
  unfold back
  exact if_pos (Nat.zero_le _)

/-- `k` rows before it, inside the block. -/
theorem back_inside (y : Fin 128) (k : Fin 3) (d : Fin 1024) (h : k.val ≤ y.val) :
    back i x0 x1 y k d = normed x1 ⟨y.val - k.val, by omega⟩ d := by
  unfold back
  exact if_pos h

/-- From row 2 on the convolution reads the block alone. -/
theorem conv_inside (y : Fin 128) (d : Fin 1024) (hy : 2 ≤ y.val) : conv i x0 x1 x2 x3 y d
    = normed x1 y d * x2 (ix2 2 d) + normed x1 ⟨y.val - 1, by omega⟩ d * x2 (ix2 1 d)
      + normed x1 ⟨y.val - 2, by omega⟩ d * x2 (ix2 0 d) + x3 (ix2 0 d) := by
  unfold conv
  rw [back_zero, back_inside i x0 x1 y 1 d (show 1 ≤ y.val by omega), back_inside i x0 x1 y 2 d hy]
  rfl

/-- From row 2 on the whole block's store is the convolution. -/
theorem rows_at (y : Fin 128) (d : Fin 1024) (hy : 2 ≤ y.val) :
    rows (F := Ideal) x1 x2 x3 (ix2 y d) = conv i x0 x1 x2 x3 y d := by
  refine Eq.trans ?_ (conv_inside i x0 x1 x2 x3 y d hy).symm
  have h1 : ¬y.val < 1 := by omega
  have h2 : ¬y.val < 2 := by omega
  pointwise [rows, tok, bias, w0, w1, w2, k0_pay9, k0_pay5, k0_pay6, k0_pay7, k0_pay8]
  simp only [h1, h2, dite_false]
  rfl

/-- The store of row 0 is the convolution there. -/
theorem row0_at (d : Fin 1024) : row0 (F := Ideal) i x0 x1 x2 x3 (ix2 0 d) = conv i x0 x1 x2 x3 0 d := by
  pointwise [row0, tok, bias, w0, w1, w2, halo, k0_pay1, k0_pay2, k0_pay10, k0_pay11, k0_pay5, k0_pay6, k0_pay7, k0_pay8]
  rw [later_word (i 0)]
  unfold conv back
  rw [if_pos (show (0 : Fin 3).val ≤ (0 : Fin 128).val by decide), if_neg (show ¬(1 : Fin 3).val ≤ (0 : Fin 128).val by decide), if_neg (show ¬(2 : Fin 3).val ≤ (0 : Fin 128).val by decide)]
  by_cases h : 0 < (i 0).val
  · simp only [if_pos h]; rfl
  · simp only [if_neg h, zero_mul]; rfl

/-- The store of row 1 is the convolution there. -/
theorem row1_at (d : Fin 1024) : row1 (F := Ideal) i x0 x1 x2 x3 (ix2 0 d) = conv i x0 x1 x2 x3 1 d := by
  pointwise [row1, tok, bias, w0, w1, w2, halo, k0_pay1, k0_pay3, k0_pay10, k0_pay11, k0_pay5, k0_pay6, k0_pay7, k0_pay8]
  rw [later_word (i 0)]
  unfold conv back
  rw [if_pos (show (0 : Fin 3).val ≤ (1 : Fin 128).val by decide), if_pos (show (1 : Fin 3).val ≤ (1 : Fin 128).val by decide), if_neg (show ¬(2 : Fin 3).val ≤ (1 : Fin 128).val by decide)]
  by_cases h : 0 < (i 0).val
  · simp only [if_pos h]; rfl
  · simp only [if_neg h, zero_mul]; rfl

/-- The block the body leaves is the convolution, at every element. -/
theorem outBlk_at (y : Fin 128) (d : Fin 1024) : outBlk (F := Ideal) i x0 x1 x2 x3 (ix2 y d) = conv i x0 x1 x2 x3 y d := by
  unfold outBlk pieces
  by_cases h1 : y = 1
  · subst h1
    rw [← row1_at, ← View.canon_cons_emb (Val := Elt Ideal) (Rect.unit (s := S128x1024) ![1, 0] S1x1024.size inb_S128x1024_S1x1024_1_0) (row1 i x0 x1 x2 x3) _ (ix2 0 d)]
    congr 1
    idx_ext
  rw [View.canon_cons_of_not_mem _ _ (by rw [Rect.mem_set_unit]; intro hh; have := hh 0; simp at this; omega)]
  by_cases h0 : y = 0
  · subst h0
    rw [← row0_at, ← View.canon_cons_emb (Val := Elt Ideal) (Rect.unit (s := S128x1024) ![0, 0] S1x1024.size inb_S128x1024_S1x1024_0_0) (row0 i x0 x1 x2 x3) _ (ix2 0 d)]
    congr 1
    idx_ext
  rw [View.canon_cons_of_not_mem _ _ (by rw [Rect.mem_set_unit]; intro hh; have := hh 0; simp at this; omega), View.canon_unit_zero hz]
  exact rows_at i x0 x1 x2 x3 y d (by omega)

end Cert.KernelIdeal.Fused

end
-- ==== Proof.Spec.lean ====
/- The two results as plain formulas over the argument arrays, at the ideal instance. -/
module

public import Idealize.ShloMosaic.PureOps.Ideal
public import Idealize.ShloMosaic.Lib.Pointwise

@[expose] public section

set_option maxRecDepth 16384

noncomputable section

namespace Cert.Spec

open Idealize.ShloMosaic

variable (X : FVec Ideal ⟨3, ![1, 2048, 1024]⟩ .f32) (W : FVec Ideal ⟨1, ![1024]⟩ .f32) (C : FVec Ideal ⟨3, ![1024, 1, 3]⟩ .f32)
  (B : FVec Ideal ⟨1, ![1024]⟩ .f32)

/-- Token `r` at feature `d`, over the root of the mean of the token's squares plus the epsilon. -/
def token (r : Fin 2048) (d : Fin 1024) : EReal :=
  X (ix3 0 r d) * Ideal.rsqrt (Ideal.div (∑ k : Fin 1024, X (ix3 0 r k) * X (ix3 0 r k)) (Ideal.ofBits .f32 0x44800000#32)
    + Ideal.ofBits .f32 0x34000000#32)

/-- The normalised token `k` places before token `r`, zero before the first. -/
def ago (k : ℕ) (r : Fin 2048) (d : Fin 1024) : EReal :=
  if k ≤ r.val then token X ⟨r.val - k, by omega⟩ d else 0

/-- The first result: the causal convolution of width 3 of the normalised tokens, each feature scaled by its weight. -/
def mixed (r : Fin 2048) (d : Fin 1024) : EReal :=
  ago X 0 r d * (W (ix1 d) * C (ix3 d 0 2)) + ago X 1 r d * (W (ix1 d) * C (ix3 d 0 1)) + ago X 2 r d * (W (ix1 d) * C (ix3 d 0 0)) + B (ix1 d)

/-- The smaller eigenvalue of the Gram matrix of the matrix with rows `(a, b)`, `(c, d)`, as the kernel computes it, from
    the squared Frobenius norm and the determinant; -/
def eigFro (a b c d : EReal) : EReal :=
  Ideal.ofBits .f32 0x3F000000#32 * (a * a + b * b + c * c + d * d
    - Ideal.sqrt (max ((a * a + b * b + c * c + d * d) * (a * a + b * b + c * c + d * d)
      - Ideal.ofBits .f32 0x40800000#32 * (a * d - b * c) * (a * d - b * c)) 0))

/-- and as the reference does, from the Gram matrix's entries. -/
def eigGram (a b c d : EReal) : EReal :=
  Ideal.div (a * a + c * c + (b * b + d * d)) (Ideal.ofBits .f32 0x40000000#32)
    - Ideal.sqrt (Ideal.div (a * a + c * c - (b * b + d * d)) (Ideal.ofBits .f32 0x40000000#32)
        * Ideal.div (a * a + c * c - (b * b + d * d)) (Ideal.ofBits .f32 0x40000000#32)
      + (a * b + c * d) * (a * b + c * d))

/-- How far the root of the eigenvalue `s` passes the margin. -/
def excess (s : EReal) : EReal := max (Ideal.sqrt (max s 0) - Ideal.ofBits .f32 0x3E19999A#32) 0

/-- The second result: the squared excesses of the two matrices, weighted. -/
def penalty (s : Fin 2 → EReal) : EReal := (∑ i, excess (s i) * excess (s i)) * Ideal.ofBits .f32 0x3DCCCCCD#32

end Cert.Spec

end
-- ==== Proof.Value.lean ====
/- The kernel's result arrays after the run, as plain formulas over the argument arrays. -/
module

public import proofs.«01_k».proof.Proof.Run
public import proofs.«01_k».proof.Proof.Rows
public import proofs.«01_k».proof.Proof.Spec

@[expose] public section

set_option maxRecDepth 16384

noncomputable section

namespace Cert.KernelIdeal.Fused

open Idealize.ShloMosaic Idealize.ShloMosaic.TcCoe Idealize.SL.Sem
open Idealize.ShloMosaic.Pipeline (Dat)
open Cert.KernelIdeal.Gen

variable (m : (ℓ : Loc nD τ sig) → Buf (Elt Ideal) ℓ)

/-- There are 16 grid points. -/
theorem lt16 (t : Fin cfg0.N) : t.val < 16 := Nat.lt_of_lt_of_eq t.isLt N_0

/-- The windows' block indices, at every grid point. -/
theorem idx : ∀ t : Fin cfg0.N, win0_0.index t = ![16 * t.val - 1, 0] ∧ win0_1.index t = ![t.val, 0] ∧ win0_2.index t = ![0, 0]
    ∧ win0_3.index t = ![0, 0] ∧ win0_4.index t = ![0, 0] ∧ win0_5.index t = ![t.val, 0] ∧ win0_6.index t = ![0, 0]
    ∧ (grid0.coords t 0).val = t.val :=
  (by decide +kernel : ∀ t : Fin grid0.N, _)

/-- The first and second windows' array is the tokens, as a matrix, -/
theorem tokens_in (c : Dev nD) : V m c main_v0 = shapeCast S2048x1024 (m ((c : Thread nD τ).loc main_arg0)) shapeCasts_S1x2048x1024_S2048x1024 := by
  show StableHlo.after hostOps0 (fun b => m (c, b)) (Proc.devRef .tc main_v0) = _
  after_results
  try rfl

/-- the third's the convolution's weights, each feature's by the feature's scale, -/
theorem weights_in (c : Dev nD) : V m c main_v5 = (mulf
    (broadcastInDim S3x1024 ![0, 1] bcast_S1x1024_S3x1024_0_1 (broadcastInDim S1x1024 ![1] bcast_S1024_S1x1024_1
      (show FVec Ideal S1024 .f32 from m ((c : Thread nD τ).loc main_arg1))))
    (transpose S3x1024 [1, 0] (shapeCast S1024x3 (show FVec Ideal S1024x1x3 .f32 from m ((c : Thread nD τ).loc main_arg2)) shapeCasts_S1024x1x3_S1024x3) transposes_S1024x3_S3x1024_1_0) : FVec Ideal S3x1024 .f32) := by
  show StableHlo.after hostOps0 (fun b => m (c, b)) (Proc.devRef .tc main_v5) = _
  after_results
  try rfl

/-- the fourth's the bias, as a row, -/
theorem bias_in (c : Dev nD) : V m c main_v6 = shapeCast S1x1024 (m ((c : Thread nD τ).loc main_arg3)) shapeCasts_S1024_S1x1024 := by
  show StableHlo.after hostOps0 (fun b => m (c, b)) (Proc.devRef .tc main_v6) = _
  after_results
  try rfl

/-- and the fifth's the matrices, one a row. -/
theorem core_in (c : Dev nD) : V m c main_v7 = shapeCast S2x4 (m ((c : Thread nD τ).loc main_arg8)) shapeCasts_S2x2x2_S2x4 := by
  show StableHlo.after hostOps0 (fun b => m (c, b)) (Proc.devRef .tc main_v7) = _
  after_results
  try rfl

/-! ## The arguments, and the blocks as reads of them -/

/-- The tokens, -/
abbrev argX (c : Dev nD) : FVec Ideal S1x2048x1024 .f32 := m ((c : Thread nD τ).loc main_arg0)
/-- the normalisation's scale, -/
abbrev argW (c : Dev nD) : FVec Ideal S1024 .f32 := m ((c : Thread nD τ).loc main_arg1)
/-- the convolution's weights, -/
abbrev argC (c : Dev nD) : FVec Ideal S1024x1x3 .f32 := m ((c : Thread nD τ).loc main_arg2)
/-- its bias, -/
abbrev argB (c : Dev nD) : FVec Ideal S1024 .f32 := m ((c : Thread nD τ).loc main_arg3)
/-- and the batch of matrices. -/
abbrev argM (c : Dev nD) : FVec Ideal S2x2x2 .f32 := m ((c : Thread nD τ).loc main_arg8)

/-- The halo window's block at point `t` starts eight rows before the second window's. -/
theorem emb0 (t : Fin cfg0.N) (y : Fin 8) (d : Fin 1024) (r : Fin 2048) (h : r.val = (16 * t.val - 1) * 8 + y.val) :
    ((cfg0.win 0).blk t).view.emb (ix2 y d) = (ix2 r d : S2048x1024.Idx) := by
  blk_ext [idx t]

/-- Row `y` of the second window's block at point `t` is row `128 t + y` of its array. -/
theorem emb1 (t : Fin cfg0.N) (y : Fin 128) (d : Fin 1024) (r : Fin 2048) (h : r.val = 128 * t.val + y.val) :
    ((cfg0.win 1).blk t).view.emb (ix2 y d) = (ix2 r d : S2048x1024.Idx) := by
  blk_ext [idx t]

/-- The third window's block is its whole array; -/
theorem emb2 (t : Fin cfg0.N) (k : Fin 3) (d : Fin 1024) : ((cfg0.win 2).blk t).view.emb (ix2 k d) = (ix2 k d : S3x1024.Idx) := by
  blk_ext [idx t]
/-- so is the fourth's, -/
theorem emb3 (t : Fin cfg0.N) (d : Fin 1024) : ((cfg0.win 3).blk t).view.emb (ix2 0 d) = (ix2 0 d : S1x1024.Idx) := by
  blk_ext [idx t]
/-- and the fifth's. -/
theorem emb4 (t : Fin cfg0.N) (i : Fin 2) (k : Fin 4) : ((cfg0.win 4).blk t).view.emb (ix2 i k) = (ix2 i k : S2x4.Idx) := by
  blk_ext [idx t]

/-- The tokens as a matrix, at an element. -/
theorem matrix_at (X : FVec Ideal S1x2048x1024 .f32) (r : Fin 2048) (d : Fin 1024) :
    shapeCast S2048x1024 X shapeCasts_S1x2048x1024_S2048x1024 (ix2 r d) = X (ix3 0 r d) := by
  pointwise

/-- The scaled weights, at an element. -/
theorem weights_at (W : FVec Ideal S1024 .f32) (C : FVec Ideal S1024x1x3 .f32) (k : Fin 3) (d : Fin 1024) :
    (mulf (broadcastInDim S3x1024 ![0, 1] bcast_S1x1024_S3x1024_0_1 (broadcastInDim S1x1024 ![1] bcast_S1024_S1x1024_1 W))
      (transpose S3x1024 [1, 0] (shapeCast S1024x3 C shapeCasts_S1024x1x3_S1024x3) transposes_S1024x3_S3x1024_1_0) : FVec Ideal S3x1024 .f32) (ix2 k d)
      = W (ix1 d) * C (ix3 d 0 k) := by
  pointwise

/-- The bias as a row, at an element. -/
theorem bias_at (B : FVec Ideal S1024 .f32) (d : Fin 1024) : shapeCast S1x1024 B shapeCasts_S1024_S1x1024 (ix2 0 d) = B (ix1 d) := by
  pointwise

/-- A matrix as a row: element `(a, b)` sits at place `2 a + b`. -/
theorem core_at (M : FVec Ideal S2x2x2 .f32) (i a b : Fin 2) :
    shapeCast S2x4 M shapeCasts_S2x2x2_S2x4 (ix2 i ⟨2 * a.val + b.val, by omega⟩) = M (ix3 i a b) := by
  pointwise

/-- The halo's row `y` at a point after the first. -/
theorem blk0_at (c : Dev nD) (t : Fin cfg0.N) (y : Fin 8) (d : Fin 1024) (r : Fin 2048) (h : r.val = (16 * t.val - 1) * 8 + y.val) :
    (iblk m c 0 t : FVec Ideal S8x1024 .f32) (ix2 y d) = argX m c (ix3 0 r d) := by
  blk_simp [iblk]
  rw [tokens_in]
  exact (congrArg _ (emb0 t y d r h)).trans (matrix_at _ _ _)

/-- The second window's block at point `t` is the tokens from `128 t` on. -/
theorem blk1_at (c : Dev nD) (t : Fin cfg0.N) (y : Fin 128) (d : Fin 1024) (r : Fin 2048) (h : r.val = 128 * t.val + y.val) :
    (iblk m c 1 t : FVec Ideal S128x1024 .f32) (ix2 y d) = argX m c (ix3 0 r d) := by
  blk_simp [iblk]
  rw [tokens_in]
  exact (congrArg _ (emb1 t y d r h)).trans (matrix_at _ _ _)

/-- The weights' block. -/
theorem blk2_at (c : Dev nD) (t : Fin cfg0.N) (k : Fin 3) (d : Fin 1024) :
    (iblk m c 2 t : FVec Ideal S3x1024 .f32) (ix2 k d) = argW m c (ix1 d) * argC m c (ix3 d 0 k) := by
  blk_simp [iblk]
  rw [weights_in]
  exact (congrArg _ (emb2 t k d)).trans (weights_at _ _ _ _)

/-- The bias's block. -/
theorem blk3_at (c : Dev nD) (t : Fin cfg0.N) (d : Fin 1024) :
    (iblk m c 3 t : FVec Ideal S1x1024 .f32) (ix2 0 d) = argB m c (ix1 d) := by
  blk_simp [iblk]
  rw [bias_in]
  exact (congrArg _ (emb3 t d)).trans (bias_at _ _)

/-- The matrices' block. -/
theorem blk4_at (c : Dev nD) (t : Fin cfg0.N) (i a b : Fin 2) :
    (iblk m c 4 t : FVec Ideal S2x4 .f32) (ix2 i ⟨2 * a.val + b.val, by omega⟩) = argM m c (ix3 i a b) := by
  blk_simp [iblk]
  rw [core_in]
  exact (congrArg _ (emb4 t i _)).trans (core_at _ _ _ _)

end Cert.KernelIdeal.Fused

end
-- ==== Proof.Tokens.lean ====
/- The kernel's first result array after the run: the plain formula over the argument arrays. -/
module

public import proofs.«01_k».proof.Proof.Value

@[expose] public section

set_option maxRecDepth 16384

noncomputable section

namespace Cert.KernelIdeal.Fused

open Idealize.ShloMosaic Idealize.ShloMosaic.TcCoe Idealize.SL.Sem
open Idealize.ShloMosaic.Pipeline (Dat)
open Cert.KernelIdeal.Gen Cert.Spec

variable (m : (ℓ : Loc nD τ sig) → Buf (Elt Ideal) ℓ)

/-- A normalised row of the second window's block is a normalised token; -/
theorem normed1 (c : Dev nD) (t : Fin cfg0.N) (y : Fin 128) (d : Fin 1024) (r : Fin 2048) (h : r.val = 128 * t.val + y.val) :
    normed (iblk m c 1 t : FVec Ideal S128x1024 .f32) y d = token (argX m c) r d := by
  unfold normed token
  simp only [blk1_at m c t y _ r h]

/-- so is one of the halo's. -/
theorem normed0 (c : Dev nD) (t : Fin cfg0.N) (y : Fin 8) (d : Fin 1024) (r : Fin 2048) (h : r.val = (16 * t.val - 1) * 8 + y.val) :
    normed (iblk m c 0 t : FVec Ideal S8x1024 .f32) y d = token (argX m c) r d := by
  unfold normed token
  simp only [blk0_at m c t y _ r h]

/-- The row `k` rows before row `y` of block `t` is the token `k` places before token `128 t + y`. -/
theorem back_at (c : Dev nD) (t : Fin cfg0.N) (y : Fin 128) (k : Fin 3) (d : Fin 1024) (r : Fin 2048) (h : r.val = 128 * t.val + y.val) :
    back (grid0.coords t) (iblk m c 0 t) (iblk m c 1 t) y k d = ago (argX m c) k.val r d := by
  have ht := lt16 t
  have hc : (grid0.coords t 0).val = t.val := (idx t).2.2.2.2.2.2.2
  unfold back ago
  rw [hc]
  by_cases h1 : k.val ≤ y.val
  · rw [if_pos h1, if_pos (show k.val ≤ r.val by omega)]
    exact normed1 m c t _ d _ (by show r.val - k.val = _ + (y.val - k.val); omega)
  · rw [if_neg h1]
    by_cases h0 : 0 < t.val
    · rw [if_pos h0, if_pos (show k.val ≤ r.val by omega)]
      exact normed0 m c t _ d _ (by show r.val - k.val = _ + (8 + y.val - k.val) % 8; omega)
    · rw [if_neg h0, if_neg (show ¬k.val ≤ r.val by omega)]

/-- What the body leaves in the first output's buffer at point `t`. -/
theorem outAt_at (c : Dev nD) (t : Fin cfg0.N) (y : Fin 128) (d : Fin 1024) (r : Fin 2048) (h : r.val = 128 * t.val + y.val) :
    outAt m c t (ix2 y d) = mixed (argX m c) (argW m c) (argC m c) (argB m c) r d := by
  unfold outAt
  rw [outBlk_at]
  unfold conv mixed
  rw [back_at m c t y 0 d r h, back_at m c t y 1 d r h, back_at m c t y 2 d r h, blk2_at, blk2_at, blk2_at, blk3_at]
  rfl

/-- The first result as a matrix of tokens. -/
def MIXED (c : Dev nD) : FVec Ideal S2048x1024 .f32 := fun j => mixed (argX m c) (argW m c) (argC m c) (argB m c) (j 0) (j 1)

/-- Row `y` of the first output's block at point `t` is row `128 t + y` of its array. -/
theorem emb5 (t : Fin cfg0.N) (y : Fin 128) (d : Fin 1024) (r : Fin 2048) (h : r.val = 128 * t.val + y.val) :
    ((cfg0.win 5).blk t).view.emb (ix2 y d) = (ix2 r d : S2048x1024.Idx) := by
  blk_ext [idx t]

/-- The blocks the points write are the blocks of `MIXED`. -/
theorem point5 (c : Dev nD) (t : Fin cfg0.N) (y : S128x1024.Idx) :
    outAt m c t y = MIXED m c (((cfg0.win 5).blk t).view.emb y) := by
  obtain ⟨a, d, rfl⟩ : ∃ (a : Fin 128) (d : Fin 1024), y = ix2 a d := ⟨y 0, y 1, eq_ix2 y⟩
  have hr : 128 * t.val + a.val < 2048 := by have := lt16 t; omega
  exact (outAt_at m c t a d ⟨128 * t.val + a.val, hr⟩ rfl).trans (congrArg (MIXED m c) (emb5 t a d ⟨128 * t.val + a.val, hr⟩ rfl)).symm

/-- The first output's array after the run. -/
theorem final5 (c : Dev nD) : (dats m 0 c).arrAt 5 (cfgs 0).N = MIXED m c := by
  refine (dats m 0 c).arrAt_eq_of_covers 5 _ (by decide +kernel) fun t _ y => ?_
  blk_simp
  rw [after5]
  exact point5 m c t y

end Cert.KernelIdeal.Fused

end
-- ==== Proof.Penalty.lean ====
/- The kernel's second result and the reference's, over the batch of matrices. -/
module

public import proofs.«01_k».proof.Proof.Body
public import proofs.«01_k».proof.Proof.Spec
public import proofs.«01_k».proof.Proof.Gen.ReferenceIdeal.Read
public import Idealize.ShloMosaic.Lib.Pointwise

@[expose] public section

set_option maxRecDepth 16384

noncomputable section

namespace Cert.KernelIdeal.Fused

open Idealize.ShloMosaic Idealize.ShloMosaic.TcCoe Idealize.SL.Sem
open Cert.KernelIdeal.Gen Cert.Spec

/-- What the kernel stores as its second result, from the matrices one a row. -/
theorem auxBlk_at (x : FVec Ideal S2x4 .f32) : auxBlk (F := Ideal) x (ix2 0 0)
    = penalty fun i => eigFro (x (ix2 i 0)) (x (ix2 i 1)) (x (ix2 i 2)) (x (ix2 i 3)) := by
  unfold penalty excess eigFro
  pointwise [auxBlk, k0_pay4]
  simp only [Finset.univ_unique, Finset.sum_singleton]

end Cert.KernelIdeal.Fused

namespace Cert.ReferenceIdeal.Read

open Cert.ReferenceIdeal Cert.ReferenceIdeal.Gen Idealize.ShloMosaic Idealize.ShloMosaic.TcCoe Idealize.SL.Sem
open Cert.Spec

variable (M : FVec Ideal S2x2x2 .f32)

/-- The Gram matrix's first diagonal entry, -/
theorem p_at (i : Fin 2) : val_main_v18 (F := Ideal) M (ix1 i) = M (ix3 i 0 0) * M (ix3 i 0 0) + M (ix3 i 1 0) * M (ix3 i 1 0) := by
  pointwise [val_main_v18, val_main_v17, val_main_v16, val_main_v15, val_main_v14, val_main_v13, val_main_cst_2]
  exact Fin.sum_univ_two _
/-- its second -/
theorem q_at (i : Fin 2) : val_main_v24 (F := Ideal) M (ix1 i) = M (ix3 i 0 1) * M (ix3 i 0 1) + M (ix3 i 1 1) * M (ix3 i 1 1) := by
  pointwise [val_main_v24, val_main_v23, val_main_v22, val_main_v21, val_main_v20, val_main_v19, val_main_cst_3]
  exact Fin.sum_univ_two _
/-- and the one off the diagonal. -/
theorem m_at (i : Fin 2) : val_main_v30 (F := Ideal) M (ix1 i) = M (ix3 i 0 0) * M (ix3 i 0 1) + M (ix3 i 1 0) * M (ix3 i 1 1) := by
  pointwise [val_main_v30, val_main_v29, val_main_v28, val_main_v27, val_main_v26, val_main_v25, val_main_cst_4]
  exact Fin.sum_univ_two _
/-- Its smaller eigenvalue. -/
theorem eig_at (i : Fin 2) : val_main_v41 (F := Ideal) M (ix1 i) = eigGram (M (ix3 i 0 0)) (M (ix3 i 0 1)) (M (ix3 i 1 0)) (M (ix3 i 1 1)) := by
  unfold eigGram
  rw [← p_at, ← q_at, ← m_at]
  pointwise [val_main_v41, val_main_v40, val_main_v39, val_main_v38, val_main_v37, val_main_v36, val_main_v35, val_main_v34, val_main_v33, val_main_v32, val_main_v31, val_main_cst_5, val_main_cst_6]

/-- A mean over one element divides by one. -/
theorem div_one (x : EReal) : Ideal.div x 1 = x := by
  unfold Ideal.div
  rw [if_neg one_ne_zero, inv_one, mul_one]

/-- The second result. -/
theorem penalty_at : val_main_v54 (F := Ideal) M ix0
    = penalty fun i => eigGram (M (ix3 i 0 0)) (M (ix3 i 0 1)) (M (ix3 i 1 0)) (M (ix3 i 1 1)) := by
  unfold penalty excess
  simp only [← eig_at]
  pointwise [val_main_v54, val_main_v53, val_main_v52, val_main_v51, val_main_v50, val_main_v49, val_main_v48, val_main_v47, val_main_v46, val_main_v45, val_main_v44, val_main_v43, val_main_v42, val_main_cst_7, val_main_cst_8, val_main_cst_9, val_main_cst_10, val_main_cst_11, val_main_cst_12, val_main_call0_cst, val_main_call0_v0]
  simp only [Finset.univ_unique, Finset.sum_singleton, div_one]

end Cert.ReferenceIdeal.Read

end
-- ==== Proof.Eig.lean ====
/- The two formulas for the smaller eigenvalue of the Gram matrix agree on finite matrices. -/
module

public import proofs.«01_k».proof.Proof.Spec

@[expose] public section

noncomputable section

namespace Cert.Spec

open Idealize.ShloMosaic

/-- The words `0.5`, -/
theorem half : Ideal.ofBits .f32 0x3F000000#32 = ((1 / 2 : ℝ) : EReal) := by
  simp [Ideal.ofBits, Ideal.ieee, ← EReal.coe_mul]; norm_num [← EReal.coe_mul]

/-- `4` -/
theorem four : Ideal.ofBits .f32 0x40800000#32 = ((4 : ℝ) : EReal) := by
  simp [Ideal.ofBits, Ideal.ieee, ← EReal.coe_mul]; norm_num [← EReal.coe_mul]

/-- and `2`. -/
theorem two : Ideal.ofBits .f32 0x40000000#32 = ((2 : ℝ) : EReal) := by
  simp [Ideal.ofBits, Ideal.ieee, ← EReal.coe_mul]; norm_num [← EReal.coe_mul]

/-- The root of a finite non-negative number; -/
theorem sqrt_real (r : ℝ) (h : 0 ≤ r) : Ideal.sqrt (r : EReal) = (Real.sqrt r : EReal) := by
  show (if r < 0 then ⊥ else (Real.sqrt r : EReal)) = _
  rw [if_neg (not_lt.mpr h)]

/-- half a finite number. -/
theorem div_two (r : ℝ) : Ideal.div (r : EReal) ((2 : ℝ) : EReal) = ((r / 2 : ℝ) : EReal) := by
  unfold Ideal.div
  rw [if_neg (fun h => two_ne_zero (EReal.coe_eq_zero.mp h)), ← EReal.coe_inv, ← EReal.coe_mul]
  rfl

/-- On finite matrices the two formulas are one number: with `p`, `q`, `m` the Gram matrix's entries, `F = p + q` and
    `F² - 4 det² = (p - q)² + 4 m²`. -/
theorem eig_eq (a b c d : ℝ) : eigFro a b c d = eigGram a b c d := by
  unfold eigFro eigGram
  rw [half, four, two]
  simp only [← EReal.coe_mul, ← EReal.coe_add, ← EReal.coe_sub, div_two]
  have e : (a * a + b * b + c * c + d * d) * (a * a + b * b + c * c + d * d) - 4 * (a * d - b * c) * (a * d - b * c)
      = 2 * 2 * ((a * a + c * c - (b * b + d * d)) / 2 * ((a * a + c * c - (b * b + d * d)) / 2) + (a * b + c * d) * (a * b + c * d)) := by ring
  have h : 0 ≤ (a * a + c * c - (b * b + d * d)) / 2 * ((a * a + c * c - (b * b + d * d)) / 2) + (a * b + c * d) * (a * b + c * d) :=
    add_nonneg (mul_self_nonneg _) (mul_self_nonneg _)
  rw [e, max_eq_left (by exact_mod_cast mul_nonneg (by norm_num) h), sqrt_real _ (mul_nonneg (by norm_num) h), sqrt_real _ h,
    Real.sqrt_mul (by norm_num), Real.sqrt_mul_self (by norm_num)]
  simp only [← EReal.coe_mul, ← EReal.coe_sub]
  congr 1
  ring

end Cert.Spec

end
-- ==== Proof.Second.lean ====
/- The kernel's second result array after the run, and its agreement with the reference's formula on finite matrices. -/
module

public import proofs.«01_k».proof.Proof.Value
public import proofs.«01_k».proof.Proof.Penalty
public import proofs.«01_k».proof.Proof.Eig

@[expose] public section

set_option maxRecDepth 16384

noncomputable section

namespace Cert.KernelIdeal.Fused

open Idealize.ShloMosaic Idealize.ShloMosaic.TcCoe Idealize.SL.Sem
open Idealize.ShloMosaic.Pipeline (Dat)
open Cert.KernelIdeal.Gen Cert.Spec

variable (m : (ℓ : Loc nD τ sig) → Buf (Elt Ideal) ℓ)

/-- The value the first point stores, from the batch of matrices. -/
theorem auxAt_at (c : Dev nD) : auxAt m c (ix2 0 0)
    = penalty fun i => eigFro (argM m c (ix3 i 0 0)) (argM m c (ix3 i 0 1)) (argM m c (ix3 i 1 0)) (argM m c (ix3 i 1 1)) := by
  unfold auxAt
  rw [auxBlk_at]
  congr 1
  funext i
  have h := blk4_at m c pt0 i
  rw [← h 0 0, ← h 0 1, ← h 1 0, ← h 1 1]
  rfl

/-- The second output's block is its whole array. -/
theorem emb6 (t : Fin cfg0.N) (y : S1x1.Idx) : ((cfg0.win 6).blk t).view.emb y = (y : S1x1.Idx) := by
  blk_ext [idx t]

/-- The second output's array after the run is what the first point stored. -/
theorem final6 (c : Dev nD) : (dats m 0 c).arrAt 6 (cfgs 0).N = auxAt m c := by
  refine (dats m 0 c).arrAt_eq_of_covers 6 _ (by decide +kernel) fun t _ y => ?_
  blk_simp
  rw [after6]
  exact congrArg (auxAt m c) (emb6 t y).symm

/-- On finite matrices the two programs' second results are one number. -/
theorem penalty_eq (M : FVec Ideal S2x2x2 .f32) (h : ∀ j, M j ≠ ⊤ ∧ M j ≠ ⊥) :
    (penalty fun i => eigFro (M (ix3 i 0 0)) (M (ix3 i 0 1)) (M (ix3 i 1 0)) (M (ix3 i 1 1)))
      = penalty fun i => eigGram (M (ix3 i 0 0)) (M (ix3 i 0 1)) (M (ix3 i 1 0)) (M (ix3 i 1 1)) := by
  have e : ∀ j, M j = ((M j).toReal : EReal) := fun j => (EReal.coe_toReal (h j).1 (h j).2).symm
  congr 1
  funext i
  rw [e (ix3 i 0 0), e (ix3 i 0 1), e (ix3 i 1 0), e (ix3 i 1 1)]
  exact eig_eq _ _ _ _

end Cert.KernelIdeal.Fused

end
-- ==== Proof.RefTokens.lean ====
/- The reference's first result, as the plain formula over the argument arrays. -/
module

public import proofs.«01_k».proof.Proof.Gen.ReferenceIdeal.Read
public import proofs.«01_k».proof.Proof.Spec

@[expose] public section

set_option maxRecDepth 16384

noncomputable section

namespace Cert.ReferenceIdeal.Read

open Cert.ReferenceIdeal Cert.ReferenceIdeal.Gen Idealize.ShloMosaic Idealize.ShloMosaic.TcCoe Idealize.SL.Sem
open Cert.Spec

variable (X : FVec Ideal S1x2048x1024 .f32) (W : FVec Ideal S1024 .f32) (C : FVec Ideal S1024x1x3 .f32) (B : FVec Ideal S1024 .f32)

/-- The normalised tokens scaled by the weight. -/
theorem scaled_at (r : Fin 2048) (d : Fin 1024) : val_main_v12 (F := Ideal) X W (ix3 0 r d) = token X r d * W (ix1 d) := by
  pointwise [val_main_v12, val_main_v11, val_main_v10, val_main_v9, val_main_v8, val_main_v7, val_main_v6, val_main_v5, val_main_v4, val_main_v3, val_main_v2, val_main_v1, val_main_v0, val_main_cst, val_main_cst_0, val_main_cst_1, token]

/-- The padded tokens, two zero tokens first: place `r + j` holds the token `2 - j` before token `r`. -/
theorem padded_at (r : Fin 2048) (d : Fin 1024) (j : Fin 3) : val_main_v55 (F := Ideal) X W (ix3 0 ⟨r.val + j.val, by omega⟩ d)
    = ago X (2 - j.val) r d * W (ix1 d) := by
  unfold val_main_v55 ago
  pointwise
  by_cases h : 2 - j.val ≤ r.val
  · have h' : 2 ≤ r.val + j.val ∧ r.val + j.val - 2 < 2048 := by omega
    rw [if_pos h, dif_pos h', scaled_at]
    congr 3
    omega
  · have h' : ¬(2 ≤ r.val + j.val ∧ r.val + j.val - 2 < 2048) := by omega
    rw [if_neg h, dif_neg h', zero_mul]
    pointwise [val_main_call1_v0, val_main_c]
    show (((0#32).toInt : ℝ) : EReal) = 0
    simp

/-- The first result at token `r`, feature `d`. -/
theorem conv_at (r : Fin 2048) (d : Fin 1024) : val_main_v78 (F := Ideal) X W C B (ix3 0 r d)
    = (val_main_v55 (F := Ideal) X W (ix3 0 ⟨r.val + (0 : Fin 3).val, by simp; omega⟩ d) * C (ix3 d 0 0)
      + val_main_v55 (F := Ideal) X W (ix3 0 ⟨r.val + (1 : Fin 3).val, by simp; omega⟩ d) * C (ix3 d 0 1))
      + val_main_v55 (F := Ideal) X W (ix3 0 ⟨r.val + (2 : Fin 3).val, by simp; omega⟩ d) * C (ix3 d 0 2) + B (ix1 d) := by
  pointwise [val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56]
  simp only [Nat.add_comm r.val]

/-- The first result is the formula. -/
theorem mixed_at (r : Fin 2048) (d : Fin 1024) : val_main_v78 (F := Ideal) X W C B (ix3 0 r d) = mixed X W C B r d := by
  rw [conv_at, padded_at, padded_at, padded_at]
  unfold mixed
  show (ago X 2 r d * W (ix1 d) * C (ix3 d 0 0) + ago X 1 r d * W (ix1 d) * C (ix3 d 0 1)) + ago X 0 r d * W (ix1 d) * C (ix3 d 0 2) + B (ix1 d) = _
  simp only [mul_assoc]
  congr 1
  ac_rfl

end Cert.ReferenceIdeal.Read

end
-- ==== Proof.Results.lean ====
/- The kernel's two results after the host's last reshapes, their elements, and the reference's results on the same arguments. -/
module

public import proofs.«01_k».proof.Proof.Tokens
public import proofs.«01_k».proof.Proof.Second
public import proofs.«01_k».proof.Proof.RefTokens

@[expose] public section

set_option maxRecDepth 16384

noncomputable section

namespace Cert.KernelIdeal.Fused

open Idealize.ShloMosaic Idealize.ShloMosaic.TcCoe Idealize.SL.Sem
open Idealize.ShloMosaic.Pipeline (Dat)
open Cert.KernelIdeal.Gen Cert.Spec

variable (m : (ℓ : Loc nD τ sig) → Buf (Elt Ideal) ℓ)

/-- Each window's array, read at the contents the region leaves, is what the pipeline's data say of it. -/
theorem array_out (c : Dev nD) (w : Fin (cfgs 0).W) :
    Pipeline.withArrays (cfgs 0).spec c (V0 m c) (fun w => (dats m 0 c).arrAt w (cfgs 0).N) (Proc.devRef .tc (Pipeline.arrRef (cfgs 0).spec w))
      = (dats m 0 c).arrAt w (cfgs 0).N :=
  (dats m 0 c).withArrays_arrAt sharedIn0 (V0 m c) (A_eq m c) w

/-- The first result is the mixed tokens' matrix as a batch of one. -/
theorem out9 (c : Dev nD) : Pipeline.afterTail₀ cfgs (dats m) 0 (V0 m) [hostOps1] c main_v9
    = shapeCast S1x2048x1024 (MIXED m c) shapeCasts_S2048x1024_S1x2048x1024 := by
  have h : Pipeline.withArrays (cfgs 0).spec c (V0 m c) (fun w => (dats m 0 c).arrAt w (cfgs 0).N) (Proc.devRef .tc main_v8_0) = MIXED m c :=
    (array_out m c 5).trans (final5 m c)
  unfold Pipeline.afterTail₀
  show StableHlo.after hostOps1 _ _ = _
  after_results
  rw [h]
  rfl

/-- The second result is the auxiliary loss. -/
theorem out10 (c : Dev nD) : Pipeline.afterTail₀ cfgs (dats m) 0 (V0 m) [hostOps1] c main_v10
    = shapeCast S_ (auxAt m c) shapeCasts_S1x1_S_ := by
  have h : Pipeline.withArrays (cfgs 0).spec c (V0 m c) (fun w => (dats m 0 c).arrAt w (cfgs 0).N) (Proc.devRef .tc main_v8_1) = auxAt m c :=
    (array_out m c 6).trans (final6 m c)
  unfold Pipeline.afterTail₀
  show StableHlo.after hostOps1 _ _ = _
  after_results
  rw [h]
  rfl

/-- The first result at row `r`, column `d`. -/
theorem out9_at (c : Dev nD) (r : Fin 2048) (d : Fin 1024) :
    shapeCast S1x2048x1024 (MIXED m c) shapeCasts_S2048x1024_S1x2048x1024 (ix3 0 r d)
      = mixed (argX m c) (argW m c) (argC m c) (argB m c) r d := by
  refine Eq.trans ?_ (show MIXED m c (ix2 r d) = _ from rfl)
  generalize MIXED m c = Y
  pointwise

/-- The second result's one element. -/
theorem out10_at (c : Dev nD) : shapeCast S_ (auxAt m c) shapeCasts_S1x1_S_ ix0
    = penalty fun i => eigFro (argM m c (ix3 i 0 0)) (argM m c (ix3 i 0 1)) (argM m c (ix3 i 1 0)) (argM m c (ix3 i 1 1)) := by
  rw [← auxAt_at]
  generalize auxAt m c = Y
  pointwise

/-- The reference's first result, of the kernel's arguments, is the kernel's. -/
theorem tokens_agree (c : Dev nD) :
    Cert.ReferenceIdeal.Read.val_main_v78 (F := Ideal) (argX m c) (argW m c) (argC m c) (argB m c)
      = Pipeline.afterTail₀ cfgs (dats m) 0 (V0 m) [hostOps1] c main_v9 := by
  rw [out9]
  funext j
  idx_vars j
  obtain rfl : j0 = 0 := Subsingleton.elim _ _
  exact (Cert.ReferenceIdeal.Read.mixed_at _ _ _ _ _ _).trans (out9_at m c _ _).symm

/-- The reference's second result, of the kernel's finite batch of matrices, is the kernel's. -/
theorem penalty_agree (c : Dev nD) (h : ∀ j, argM m c j ≠ ⊤ ∧ argM m c j ≠ ⊥) :
    Cert.ReferenceIdeal.Read.val_main_v54 (F := Ideal) (argM m c)
      = Pipeline.afterTail₀ cfgs (dats m) 0 (V0 m) [hostOps1] c main_v10 := by
  rw [out10]
  funext j
  obtain rfl : j = ix0 := Subsingleton.elim _ _
  exact (Cert.ReferenceIdeal.Read.penalty_at _).trans ((penalty_eq _ h).symm.trans (out10_at m c).symm)

end Cert.KernelIdeal.Fused

end
-- ==== Proof.Pre.lean ====
/- The precondition: every element of the batch of matrices is finite. -/
module

public import proofs.«01_k».proof.Pre_core_finite
public import Idealize.ShloMosaic.Lib.Pointwise
public import Idealize.ShloMosaic.PureOps.Ideal.Laws

@[expose] public section

noncomputable section

namespace Cert.Pre_core_finite

open Idealize.ShloMosaic

/-- The side condition the function states. -/
theorem facts : Facts := ⟨by decide⟩

/-- The word of the bound is infinity. -/
theorem top_word : Ideal.ofBits .f32 0x7F800000#32 = ⊤ := by
  simp [Ideal.ofBits, Ideal.ieee]

/-- Where the precondition holds, every element of the batch is finite. -/
theorem finite [Facts] (a0 : FVec Ideal S1x2048x1024 .f32) (a1 : FVec Ideal S1024 .f32) (a2 : FVec Ideal S1024x1x3 .f32) (a3 : FVec Ideal S1024 .f32)
    (a4 : FVec Ideal S128x1024 .f32) (a5 a6 : FVec Ideal S128 .f32) (a7 : FVec Ideal S2x2x256x128 .f32) (M : FVec Ideal S2x2x2 .f32)
    (a9 : FVec Ideal S65536x256 .f32) (h : fn (F := Ideal) a0 a1 a2 a3 a4 a5 a6 a7 M a9 = fun _ => 1#1) (j : S2x2x2.Idx) :
    M j ≠ ⊤ ∧ M j ≠ ⊥ := by
  have hj := congrFun h j
  unfold fn at hj
  idx_vars j
  revert hj
  pointwise
  rw [top_word, show FloatOps.absf (M (ix3 j0 j1 j2)) = max (M (ix3 j0 j1 j2)) (-M (ix3 j0 j1 j2)) from rfl]
  intro hj
  have hb : max (M (ix3 j0 j1 j2)) (-M (ix3 j0 j1 j2)) < ⊤ := by
    by_contra hn
    rw [decide_eq_false hn] at hj
    exact absurd hj (by decide)
  refine ⟨fun e => ?_, fun e => ?_⟩
  · rw [e] at hb; simp at hb
  · rw [e] at hb; simp at hb

end Cert.Pre_core_finite

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Run
public import proofs.«01_k».proof.Proof.Frames
public import proofs.«01_k».proof.Proof.Results
public import proofs.«01_k».proof.Proof.Pre
public import Idealize.ShloMosaic.Adequacy
public import Idealize.ShloMosaic.Init

@[expose] public section

noncomputable section

namespace Cert.Proof

open Idealize.ShloMosaic Idealize.SL.Sem Cert.Kernel

/-- The two programs' results agree where the batch of matrices `core` is finite. -/
theorem results : Cert.algebraic_KernelIdeal_ReferenceIdeal_pre_core_finite (hKernelIdeal := Cert.KernelIdeal.Gen.facts)
    (hReferenceIdeal := Cert.ReferenceIdeal.Gen.facts) (hPre_core_finite := Cert.Pre_core_finite.facts) := by
  haveI := Cert.Pre_core_finite.facts
  pair_intro
  · run_from Cert.KernelIdeal.Fused.run_main m g
    · exact Cert.KernelIdeal.Gen.W_main_arg0 m (Cert.KernelIdeal.Fused.dats m) c
    · exact Cert.KernelIdeal.Gen.W_main_arg1 m (Cert.KernelIdeal.Fused.dats m) c
    · exact Cert.KernelIdeal.Gen.W_main_arg2 m (Cert.KernelIdeal.Fused.dats m) c
    · exact Cert.KernelIdeal.Gen.W_main_arg3 m (Cert.KernelIdeal.Fused.dats m) c
    · exact Cert.KernelIdeal.Gen.W_main_arg4 m (Cert.KernelIdeal.Fused.dats m) c
    · exact Cert.KernelIdeal.Gen.W_main_arg5 m (Cert.KernelIdeal.Fused.dats m) c
    · exact Cert.KernelIdeal.Gen.W_main_arg6 m (Cert.KernelIdeal.Fused.dats m) c
    · exact Cert.KernelIdeal.Gen.W_main_arg7 m (Cert.KernelIdeal.Fused.dats m) c
    · exact Cert.KernelIdeal.Gen.W_main_arg8 m (Cert.KernelIdeal.Fused.dats m) c
    · exact Cert.KernelIdeal.Gen.W_main_arg9 m (Cert.KernelIdeal.Fused.dats m) c
  · run_from Cert.ReferenceIdeal.Value.run m' g'
    · exact (Cert.ReferenceIdeal.Read.val_main_v78_eq _ _ _ _).trans (Cert.KernelIdeal.Fused.tokens_agree m c)
    · refine (Cert.ReferenceIdeal.Read.val_main_v54_eq m' c).trans ?_
      obtain ⟨-, -, -, -, -, -, -, -, h8, -⟩ := hagree c
      rw [h8]
      exact Cert.KernelIdeal.Fused.penalty_agree m c (Cert.Pre_core_finite.finite _ _ _ _ _ _ _ _ _ _ (hpre c))

theorem claim : Cert.Claim := ⟨Cert.Kernel.Gen.facts, Cert.KernelIdeal.Gen.facts, Cert.ReferenceIdeal.Gen.facts, Cert.Pre_core_finite.facts,
  kernel_frame,
  fun m ρ _ => Cert.KernelIdeal.Fused.frame m ρ,
  fun m ρ _ => Cert.KernelIdeal.Fused.frame m ρ,
  reference_frame,
  fun m ρ _ => reference_frame m ρ trivial,
  trivial,
  results⟩

end Cert.Proof

end
